-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x65536 : Shape := ⟨2, ![64, 65536]⟩
abbrev S2x65536x768 : Shape := ⟨3, ![2, 65536, 768]⟩
abbrev S2x768 : Shape := ⟨2, ![2, 768]⟩
abbrev S131072x768 : Shape := ⟨2, ![131072, 768]⟩
abbrev S1x1536 : Shape := ⟨2, ![1, 1536]⟩
abbrev S64x1536 : Shape := ⟨2, ![64, 1536]⟩
abbrev S8x1024x768 : Shape := ⟨3, ![8, 1024, 768]⟩
abbrev S8 : Shape := ⟨1, ![8]⟩
abbrev S1 : Shape := ⟨1, ![1]⟩
abbrev S_ : Shape := ⟨0, ![]⟩
abbrev S1x1024x768 : Shape := ⟨3, ![1, 1024, 768]⟩
abbrev S1024x768 : Shape := ⟨2, ![1024, 768]⟩
abbrev S64x1024 : Shape := ⟨2, ![64, 1024]⟩
abbrev S64x768 : Shape := ⟨2, ![64, 768]⟩
abbrev S64x2x768 : Shape := ⟨3, ![64, 2, 768]⟩

abbrev nBuf : Space → Nat
  | .hbm => 7
  | .vmem => 4
  | .smem => 0
  | _ => 0

abbrev bufTy : (tb : Table) → Fin (tcTables nBuf tb) → BufTy
  | .hbm, ⟨0, _⟩ => ⟨S64x65536, .f32⟩
  | .hbm, ⟨1, _⟩ => ⟨S2x65536x768, .f32⟩
  | .hbm, ⟨2, _⟩ => ⟨S2x768, .f32⟩
  | .hbm, ⟨3, _⟩ => ⟨S131072x768, .f32⟩
  | .hbm, ⟨4, _⟩ => ⟨S1x1536, .f32⟩
  | .hbm, ⟨5, _⟩ => ⟨S64x1536, .f32⟩
  | .hbm, ⟨6, _⟩ => ⟨S64x2x768, .f32⟩
  | .local _ .vmem, ⟨0, _⟩ => ⟨S64x65536, .f32⟩
  | .local _ .vmem, ⟨1, _⟩ => ⟨S1x1536, .f32⟩
  | .local _ .vmem, ⟨2, _⟩ => ⟨S64x1536, .f32⟩
  | .local _ .vmem, ⟨3, _⟩ => ⟨S8x1024x768, .f32⟩
  | _, _ => ⟨S64x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S64x65536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S64x65536 : Shape := ⟨2, ![64, 65536]⟩
abbrev S2x65536x768 : Shape := ⟨3, ![2, 65536, 768]⟩
abbrev S2x768 : Shape := ⟨2, ![2, 768]⟩
abbrev S64x2x768 : Shape := ⟨3, ![64, 2, 768]⟩
abbrev S1x2x768 : Shape := ⟨3, ![1, 2, 768]⟩

abbrev nBuf : Space → Nat
  | .hbm => 7
  | .vmem => 0
  | .smem => 0
  | _ => 0

abbrev bufTy : (tb : Table) → Fin (tcTables nBuf tb) → BufTy
  | .hbm, ⟨0, _⟩ => ⟨S64x65536, .f32⟩
  | .hbm, ⟨1, _⟩ => ⟨S2x65536x768, .f32⟩
  | .hbm, ⟨2, _⟩ => ⟨S2x768, .f32⟩
  | .hbm, ⟨3, _⟩ => ⟨S64x2x768, .f32⟩
  | .hbm, ⟨4, _⟩ => ⟨S1x2x768, .f32⟩
  | .hbm, ⟨5, _⟩ => ⟨S64x2x768, .f32⟩
  | .hbm, ⟨6, _⟩ => ⟨S64x2x768, .f32⟩
  | _, _ => ⟨S64x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Steps.lean ====
/-
  The kernel's body once more, as a prologue and 128 runs of one step.

  Step `s` (a number below 128) works on block `s` of the weight: the 1024 rows of the flattened weight array that
  begin at row `1024 * s`. The weight's blocks pass through a ring of eight slots; block `s` takes slot `s % 8`.
  The theorem at the end says that the printed body is this program.
-/
module

public import proofs.«01_k».proof.Proof.Gen.KernelIdeal.Skeleton
public import Idealize.ShloMosaic.Lib.Pipeline.Regions

@[expose] public section

noncomputable section

namespace Cert.Hand

open Cert.KernelIdeal Cert.KernelIdeal.Gen
open Idealize.ShloMosaic Idealize.SL.Sem

variable {F : FTy → Type} [FloatOps F]

/-- The slot of block `s` lies inside the ring. -/
theorem slot_inb (s : ℕ) : ∀ a, (![s % 8, 0, 0] : Fin 3 → ℕ) a + S1x1024x768.size a ≤ S8x1024x768.size a := by
  intro a; fin_cases a <;> simp <;> omega

/-- The semaphore of block `s` lies inside the array of eight. -/
theorem cell_inb (s : ℕ) : ∀ a, (![s % 8] : Fin 1 → ℕ) a + S1.size a ≤ S8.size a := by
  intro a; fin_cases a; simp; omega

/-- The rows of block `s` lie inside the flattened weight. -/
theorem rows_inb (s : ℕ) : ∀ a, (![1024 * (s % 128), 0] : Fin 2 → ℕ) a + S1024x768.size a ≤ S131072x768.size a := by
  intro a; fin_cases a <;> simp <;> omega

/-- The columns of the activations that step `s` reads lie inside them. -/
theorem cols_inb (s : ℕ) : ∀ a, (![0, 1024 * (s % 64)] : Fin 2 → ℕ) a + S64x1024.size a ≤ S64x65536.size a := by
  intro a; fin_cases a <;> simp <;> omega

/-- The half of the result that step `s` adds to lies inside it. -/
theorem half_inb (s : ℕ) : ∀ a, (![0, 768 * (s / 64 % 2)] : Fin 2 → ℕ) a + S64x768.size a ≤ S64x1536.size a := by
  intro a; fin_cases a <;> simp <;> omega

/-- The slot of block `s`, as a rectangle of the ring. -/
abbrev slotR (s : ℕ) : Rect S8x1024x768 := Rect.unit (s := S8x1024x768) ![s % 8, 0, 0] S1x1024x768.size (slot_inb s)
/-- The rows of block `s`, as a rectangle of the flattened weight. -/
abbrev rowsR (s : ℕ) : Rect S131072x768 := Rect.unit (s := S131072x768) ![1024 * (s % 128), 0] S1024x768.size (rows_inb s)
/-- The columns of the activations that step `s` reads. -/
abbrev colsR (s : ℕ) : Rect S64x65536 := Rect.unit (s := S64x65536) ![0, 1024 * (s % 64)] S64x1024.size (cols_inb s)
/-- The half of the result that step `s` adds to. -/
abbrev halfR (s : ℕ) : Rect S64x1536 := Rect.unit (s := S64x1536) ![0, 768 * (s / 64 % 2)] S64x768.size (half_inb s)

/-- The slot of block `s`, as a window of 1024 rows. -/
abbrev slotM (arg4 : Memref sig .tc .vmem S8x1024x768 .f32) (s : ℕ) : Memref sig .tc .vmem S1024x768 .f32 :=
  (arg4.slice (slotR s) (fun _ => rfl)).squeeze S1024x768 squeezes_S1x1024x768_S1024x768
/-- The rows of block `s`, as a window of the flattened weight. -/
abbrev rowsM (arg1 : Memref sig .tc .hbm S131072x768 .f32) (s : ℕ) : Memref sig .tc .hbm S1024x768 .f32 :=
  arg1.slice (rowsR s) (fun _ => rfl)
/-- The semaphore that block `s`'s copy signals. -/
abbrev cellS (arg5 : DmaSems sig S8) (s : ℕ) : DmaSem sig :=
  ((arg5.slice (Rect.unit (s := S8) ![s % 8] S1.size (cell_inb s))).squeeze S_ squeezes_S1_S_).sem

/-- What the prologue stores: the bias, one copy for each of the 64 rows. -/
def biasRows (b : FVec F S1x1536 .f32) : FVec F S64x1536 .f32 :=
  broadcastTo S64x1536 (shapeCast S1x1536 (shapeCast S1x1536 b shapeCasts_S1x1536_S1x1536) shapeCasts_S1x1536_S1x1536) broadcasts_S1x1536_S64x1536

/-- What a step stores: the half of the result that it read, and the product of the activations' columns and the
    weight's block added to it. -/
def stepVal (f : FVec F S64x1024 .f32) (w : FVec F S1x1024x768 .f32) (o : FVec F S64x768 .f32) : FVec F S64x768 .f32 :=
  addf (shapeCast S64x768 o shapeCasts_S64x768_S64x768)
    (matmul dot_S64x1024_S1024x768_S64x768_1_0_0_1_n_n none (truncf .bf16 f bitsLt_bf16_f32)
      (truncf .bf16 (shapeCast S1024x768 w shapeCasts_S1x1024x768_S1024x768) bitsLt_bf16_f32)
      (constant S64x768 .f32 0x00000000#32))

section
variable (arg0 : Memref sig .tc .vmem S64x65536 .f32) (arg1 : Memref sig .tc .hbm S131072x768 .f32)
  (arg2 : Memref sig .tc .vmem S1x1536 .f32) (arg3 : Memref sig .tc .vmem S64x1536 .f32)
  (arg4 : Memref sig .tc .vmem S8x1024x768 .f32) (arg5 : DmaSems sig S8)

/-- The start of block `s`'s copy into its slot. -/
abbrev startCopy (s : ℕ) : Prog (TpuEff nD τ sig (Elt F) Λ₀ .tc) PUnit :=
  Prog.lift (.enqueueDma (rowsM arg1 s) (.here (slotM arg4 s)) (.dma (cellS arg5 s)) (View.wordExact_bits rfl)
    ((View.wordExact_bits rfl).reshape _ _) ⟨Or.inl rfl, trivial⟩)

/-- The wait for block `s`'s copy. -/
abbrev waitCopy (s : ℕ) : Prog (TpuEff nD τ sig (Elt F) Λ₀ .tc) PUnit :=
  Prog.lift (.waitDma2 (cellS arg5 s) (rowsM arg1 s) (slotM arg4 s) (View.wordExact_bits rfl)
    ((View.wordExact_bits rfl).reshape _ _))

/-- What step `s` does once its copies are seen to: it reads the activations' columns, the slot and the half of the
    result, and stores the half with the product added. -/
def accumulate (s : ℕ) : Prog (TpuEff nD τ sig (Elt F) Λ₀ .tc) PUnit := do
  let f : Vec F S64x1024 .f32 ← Prog.lift (.load arg0 (colsR s).toLoadRect (View.loadsAt_vmem h_S64x1024))
  let w : Vec F S1x1024x768 .f32 ← Prog.lift (.load arg4 (slotR s).toLoadRect (View.loadsAt_vmem h_S1x1024x768))
  let o : Vec F S64x768 .f32 ← Prog.lift (.load arg3 (halfR s).toLoadRect (View.loadsAt_vmem h_S64x768))
  let _ : Vec F S64x768 .f32 ← Prog.lift (.load arg3 (halfR s).toLoadRect (View.loadsAt_vmem h_S64x768))
  Prog.lift (.store arg3 (halfR s) (stepVal f w o) Finset.univ (View.stores_vmem_bits_univ h_S64x768 rfl) (.inl rfl))

/-- Step `s` while there are copies left to start: wait for block `s`, start the copy of block `s + 4`, accumulate. -/
def stepGo (s : ℕ) : Prog (TpuEff nD τ sig (Elt F) Λ₀ .tc) PUnit := do
  waitCopy arg1 arg4 arg5 s
  startCopy arg1 arg4 arg5 (s + 4)
  accumulate arg0 arg3 arg4 s

/-- One of the last four steps: wait for block `s`, accumulate. -/
def stepEnd (s : ℕ) : Prog (TpuEff nD τ sig (Elt F) Λ₀ .tc) PUnit := do
  waitCopy arg1 arg4 arg5 s
  accumulate arg0 arg3 arg4 s

/-- Before the steps: the first four copies are started, and the bias is stored into every row of the result. -/
def prologue : Prog (TpuEff nD τ sig (Elt F) Λ₀ .tc) PUnit := do
  startCopy arg1 arg4 arg5 0
  startCopy arg1 arg4 arg5 1
  startCopy arg1 arg4 arg5 2
  startCopy arg1 arg4 arg5 3
  let b : Vec F S1x1536 .f32 ← Prog.lift (.load arg2 (Rect.unit (s := S1x1536) ![0, 0] S1x1536.size inb_S1x1536_S1x1536_0_0).toLoadRect (View.loadsAt_vmem h_S1x1536))
  let _ : Vec F S64x1536 .f32 ← Prog.lift (.load arg3 (Rect.unit (s := S64x1536) ![0, 0] S64x1536.size inb_S64x1536_S64x1536_0_0).toLoadRect (View.loadsAt_vmem h_S64x1536))
  Prog.lift (.store arg3 (Rect.unit (s := S64x1536) ![0, 0] S64x1536.size inb_S64x1536_S64x1536_0_0) (biasRows b) Finset.univ (View.stores_vmem_bits_univ h_S64x1536 rfl) (.inl rfl))

/-- `n` steps in a row, the first of them step `s`, and then `k`. -/
def runs (step : ℕ → Prog (TpuEff nD τ sig (Elt F) Λ₀ .tc) PUnit) (k : Prog (TpuEff nD τ sig (Elt F) Λ₀ .tc) PUnit) :
    ℕ → ℕ → Prog (TpuEff nD τ sig (Elt F) Λ₀ .tc) PUnit
  | 0, _ => k
  | n + 1, s => do step s; runs step k n (s + 1)

/-- The whole body: the prologue, the 124 steps that start a copy, the last four. -/
def body : Prog (TpuEff nD τ sig (Elt F) Λ₀ .tc) PUnit := do
  prologue arg1 arg2 arg3 arg4 arg5
  runs (stepGo arg0 arg1 arg3 arg4 arg5) (runs (stepEnd arg0 arg1 arg3 arg4 arg5) (pure ⟨⟩) 4 124) 124 0

/-- The printed body is the prologue and the 128 steps. -/
theorem kernel_eq_body (h0 : arg0.IsWhole) (h1 : arg1.IsWhole) (h2 : arg2.IsWhole) (h3 : arg3.IsWhole) (h4 : arg4.IsWhole) :
    cc0__decode_kernel arg0 h0 arg1 h1 arg2 h2 arg3 h3 arg4 h4 arg5 = body (F := F) arg0 arg1 arg2 arg3 arg4 arg5 := by
  chain_rfl

end

end Cert.Hand
-- ==== Proof.Copies.lean ====
/-
  The copies of the weight's blocks, and one accumulation, as rules.

  A block's rows are at home, or its copy is in flight, or it has landed in its slot. Starting a copy takes the block's
  rows, a free slot and that slot's semaphore at zero; waiting for it gives the slot holding the block, the rows and
  the semaphore at zero. An accumulation reads a landed slot.
-/
module

public import proofs.«01_k».proof.Proof.Steps
public import proofs.«01_k».proof.Proof.Gen.KernelIdeal.Frame
public import Idealize.ShloMosaic.Lib.VecWindow
public import Idealize.ShloMosaic.Lib.Pipeline.Value
public import Idealize.ShloMosaic.Lib.Transfers

@[expose] public section

set_option maxRecDepth 16384

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The flattened weight, where the kernel finds it. -/
abbrev wArr : Memref sig .tc .hbm S131072x768 .f32 := Memref.whole main_v0
/-- The ring of eight slots. -/
abbrev ring : Memref sig .tc .vmem S8x1024x768 .f32 := Memref.whole cc0_scratch0
/-- The ring's eight semaphores. -/
abbrev cells : DmaSems sig S8 := cc0_scratch1

/-- Block `s` of the flattened weight: its 1024 rows. -/
def block (W : FVec F S131072x768 .f32) (s : ℕ) : FVec F S1024x768 .f32 :=
  VecWindow.window W ![1024 * (s % 128), 0] S1024x768.size (rows_inb s)

/-- What a step adds to a half `o` of the result: the product of the activations' columns `f` and the weight's block `b`. -/
def stepSum (f : FVec F S64x1024 .f32) (b : FVec F S1024x768 .f32) (o : FVec F S64x768 .f32) : FVec F S64x768 .f32 :=
  addf o (matmul dot_S64x1024_S1024x768_S64x768_1_0_0_1_n_n none (truncf .bf16 f bitsLt_bf16_f32)
    (truncf .bf16 b bitsLt_bf16_f32) (constant S64x768 .f32 0x00000000#32))

/-- The result after step `s`, given the result before it: one half has the step's product added. -/
def accStep (X : FVec F S64x65536 .f32) (W : FVec F S131072x768 .f32) (s : ℕ) (A : FVec F S64x1536 .f32) : FVec F S64x1536 .f32 :=
  VecWindow.put A ![0, 768 * (s / 64 % 2)] S64x768.size
    (stepSum (VecWindow.window X ![0, 1024 * (s % 64)] S64x1024.size (cols_inb s)) (block W s)
      (VecWindow.window A ![0, 768 * (s / 64 % 2)] S64x768.size (half_inb s)))

/-- What a step stores, in terms of the values its three loads read. -/
theorem stepVal_eq (f : FVec F S64x1024 .f32) (w : FVec F S1x1024x768 .f32) (o : FVec F S64x768 .f32)
    (b : FVec F S1024x768 .f32) (hb : shapeCast S1024x768 w shapeCasts_S1x1024x768_S1024x768 = b) :
    stepVal f w o = stepSum f b o := by
  unfold stepVal stepSum
  rw [hb, shapeCast_self]

section
variable (c : Dev nD) (W : FVec F S131072x768 .f32)

/-- The rows of block `s` are where they were. -/
def home (s : ℕ) : sProp 𝕄 :=
  (rowsM wArr s).view.loc (c : Thread nD τ) ↦[(rowsM wArr s).view.set]{fullShare} W

/-- The slot of block `s` holds contents `f`. -/
def slotPt (s : ℕ) (f : Buf (Elt F) ((slotM ring s).view.loc (c : Thread nD τ))) : sProp 𝕄 :=
  (slotM ring s).view.loc (c : Thread nD τ) ↦[(slotM ring s).view.set]{fullShare} f

/-- The semaphore of block `s` stands at zero. -/
def cellZero (s : ℕ) : sProp 𝕄 := semVal ((c : Thread nD τ), SemLoc.dma (cellS cells s)) 0

/-- The slot of block `s` holds block `s`. -/
def landed (s : ℕ) : sProp 𝕄 :=
  iprop(∃ f, ⌜(slotM ring s).view.read (Elt F) f = block W s⌝ ∗ slotPt c s f)

/-- The copy of block `s` is under way. -/
def flight (s : ℕ) : sProp 𝕄 :=
  Transfers.Flight countersEmb (c : Thread nD τ) (SemLoc.dma (cellS cells s)) ()
    ((slotM ring s).view.amount (SemLoc.dma (cellS cells s))) iprop(landed c W s ∗ home c W s)

/-- The slot of block `s` holds something, and its semaphore stands at zero. -/
def free (s : ℕ) : sProp 𝕄 := iprop((∃ f, slotPt (F := F) c s f) ∗ cellZero (F := F) c s)

/-- A copy moves something. -/
theorem amount_pos (s : ℕ) : 0 < (slotM ring s).view.amount (SemLoc.dma (cellS cells s)) :=
  View.amount_pos _ _ (by decide)

/-- What the copy of block `s` writes into the slot reads as block `s`. -/
theorem read_copied (s : ℕ) (fd : Buf (Elt F) ((slotM ring s).view.loc (c : Thread nD τ))) :
    (slotM ring s).view.read (Elt F) ((slotM ring s).view.write (Elt F) fd
      (ReadAs.same.apply ((rowsM wArr s).view.read (Elt F) W)) Finset.univ) = block W s :=
  (View.read_write_univ _ _).trans rfl

/-- The start of block `s`'s copy. -/
theorem wp_start (s : ℕ) (Q : PUnit → sProp 𝕄) :
    iprop(home c W s ∗ free (F := F) c s)
      ⊢ iprop((flight c W s -∗ Q ⟨⟩) -∗
          wp frame (wpE (defs₀ (F := F)) Variants.none (c : Thread nD τ) none) Set.univ (startCopy wArr ring cells s) Q) := by
  unfold free
  iintro ⟨Hw, ⟨⟨%fd, Hs⟩, Hc⟩⟩ Hk
  unfold home slotPt cellZero
  iapply (Transfers.wp_dmaLocal countersEmb Variants.none (c : Thread nD τ) none () _ rfl (amount_pos s) (Finset.Subset.refl _)) $$ [Hw Hs Hc]
  · isplitl [Hw]; · iexact Hw
    isplitl [Hs]; · iexact Hs
    iexact Hc
  iintro Hf
  rw [show (Prog.ret : PUnit → Prog (TpuEff nD τ sig (Elt F) Λ₀ .tc) PUnit) ⟨⟩ = Prog.ret ⟨⟩ from rfl, wp_ret]
  imodintro
  iapply Hk
  unfold flight
  iapply (Transfers.Flight_mono countersEmb (c : Thread nD τ) ?_) $$ Hf
  iintro ⟨Hs, Hw⟩
  unfold landed home slotPt
  isplitl [Hs]
  · iexists _
    isplitr
    · ipureintro; exact read_copied c W s fd
    · iexact Hs
  · iexact Hw

/-- The wait for block `s`'s copy. -/
theorem wp_await (s : ℕ) (Q : PUnit → sProp 𝕄) :
    iprop(flight c W s ∗ (∃ V, owes (c : Thread nD τ) 0 V))
      ⊢ iprop(((landed c W s ∗ home c W s ∗ cellZero (F := F) c s ∗ (∃ V, owes (c : Thread nD τ) 0 V)) -∗ Q ⟨⟩) -∗
          wp frame (wpE (defs₀ (F := F)) Variants.none (c : Thread nD τ) none) Set.univ (waitCopy wArr ring cells s) Q) := by
  iintro ⟨Hf, ⟨%V, Ho⟩⟩ Hk
  unfold flight
  iapply (Transfers.wp_waitLocal countersEmb Variants.none (c : Thread nD τ) none () rfl) $$ [Hf Ho]
  · isplitl [Hf]; · iexact Hf
    iexact Ho
  iintro ⟨⟨Hs, Hw⟩, Hc, Ho⟩
  rw [wp_ret]
  imodintro
  iapply Hk
  isplitl [Hs]; · iexact Hs
  isplitl [Hw]; · iexact Hw
  unfold cellZero
  isplitl [Hc]; · iexact Hc
  iexists _; iexact Ho

variable (arg0 : Memref sig .tc .vmem S64x65536 .f32) (arg3 : Memref sig .tc .vmem S64x1536 .f32)

/-- One accumulation over a landed slot. -/
theorem wp_accumulate (s : ℕ) (X : FVec F S64x65536 .f32) (A : FVec F S64x1536 .f32) (Q : PUnit → sProp 𝕄) :
    iprop(landed c W s ∗ owns (c : Thread nD τ) arg0 fullShare X ∗ owns (c : Thread nD τ) arg3 fullShare A)
      ⊢ iprop(((landed c W s ∗ owns (c : Thread nD τ) arg0 fullShare X ∗ owns (c : Thread nD τ) arg3 fullShare (accStep X W s A)) -∗ Q ⟨⟩) -∗
          wp frame (wpE (defs₀ (F := F)) Variants.none (c : Thread nD τ) none) Set.univ (accumulate arg0 arg3 ring s) Q) := by
  unfold landed owns slotPt
  iintro ⟨⟨%fs, %hs, Hs⟩, ⟨%fx, %hx, Hx⟩, ⟨%fa, %ha, Ha⟩⟩ Hk
  unfold accumulate
  iapply (wp_load_rect Variants.none (c : Thread nD τ) none Set.univ (m := arg0) (r := colsR s) (View.set_slice_subset _ _)) $$ Hx
  iintro Hx
  iapply (wp_load_rect Variants.none (c : Thread nD τ) none Set.univ (m := ring) (r := slotR s) (S := (slotM ring s).view.set)
    (View.set_reshape (v := ring.view.slice (slotR s)) _).symm.subset) $$ Hs
  iintro Hs
  iapply (wp_load_rect Variants.none (c : Thread nD τ) none Set.univ (m := arg3) (r := halfR s) (View.set_slice_subset _ _)) $$ Ha
  iintro Ha
  iapply (wp_load_rect Variants.none (c : Thread nD τ) none Set.univ (m := arg3) (r := halfR s) (View.set_slice_subset _ _)) $$ Ha
  iintro Ha
  iapply (wp_store Variants.none (c : Thread nD τ) none Set.univ (m := arg3) (r := halfR s) (View.set_slice_subset _ _)) $$ Ha
  iintro Ha
  rw [wp_ret]
  imodintro
  iapply Hk
  isplitl [Hs]
  · iexists fs
    isplitr; · ipureintro; exact hs
    iexact Hs
  isplitl [Hx]
  · iexists fx
    isplitr; · ipureintro; exact hx
    iexact Hx
  · iexists _
    isplitr
    swap; · iexact Ha
    ipureintro
    refine (View.read_writes_cons_put arg3.view fa (half_inb s) _ [] rfl).trans ?_
    rw [View.writes_nil, ha]
    refine (congrArg (VecWindow.put A ![0, 768 * (s / 64 % 2)] S64x768.size)
      (stepVal_eq _ ((ring.access (slotR s)).read (Elt F) fs) _ (block W s) hs)).trans ?_
    unfold accStep
    subst hx ha
    rfl

end

end Cert.Hand
-- ==== Proof.Body.lean ====
/-
  The kernel's body, run.

  Between two steps every block of the weight is at home or in flight, and every slot of the ring is free or the
  target of a copy in flight. Each step takes the oldest copy out of flight and gives its slot back; while blocks are
  left it also puts the next one in flight. The result's buffer goes through the values `acc`.
-/
module

public import proofs.«01_k».proof.Proof.Copies

@[expose] public section

set_option maxRecDepth 16384

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The result before step `s`: the bias in every row, and the products of the steps below `s` added. -/
def acc (X : FVec F S64x65536 .f32) (W : FVec F S131072x768 .f32) (b : FVec F S1x1536 .f32) : ℕ → FVec F S64x1536 .f32
  | 0 => biasRows b
  | s + 1 => accStep X W s (acc X W b s)

/-- The least number of a range set apart. -/
theorem pop {a b : ℕ} (h : a < b) (Φ : ℕ → sProp 𝕄) :
    bigSep (Finset.Ico a b) Φ = iprop(Φ a ∗ bigSep (Finset.Ico (a + 1) b) Φ) := by
  rw [Ring.Ico_eq_insert h]; exact bigSep_insert (by simp)

/-- A range with one more number at its end. -/
theorem push {a b : ℕ} (h : a ≤ b) (Φ : ℕ → sProp 𝕄) :
    bigSep (Finset.Ico a (b + 1)) Φ = iprop(Φ b ∗ bigSep (Finset.Ico a b) Φ) := by
  rw [show Finset.Ico a (b + 1) = insert b (Finset.Ico a b) by ext x; simp only [Finset.mem_Ico, Finset.mem_insert]; omega]
  exact bigSep_insert (by simp)

section
variable (c : Dev nD) (X : FVec F S64x65536 .f32) (W : FVec F S131072x768 .f32) (b : FVec F S1x1536 .f32)

/-- The slot `j` of the ring holds something, and its semaphore stands at zero. -/
def freeAt (j : ℕ) (hs : ∀ a, (![j, 0, 0] : Fin 3 → ℕ) a + S1x1024x768.size a ≤ S8x1024x768.size a)
    (hc : ∀ a, (![j] : Fin 1 → ℕ) a + S1.size a ≤ S8.size a) : sProp 𝕄 :=
  iprop((∃ f, ((ring.slice (Rect.unit (s := S8x1024x768) ![j, 0, 0] S1x1024x768.size hs) (fun _ => rfl)).squeeze S1024x768
        squeezes_S1x1024x768_S1024x768).view.loc (c : Thread nD τ)
      ↦[((ring.slice (Rect.unit (s := S8x1024x768) ![j, 0, 0] S1x1024x768.size hs) (fun _ => rfl)).squeeze S1024x768
        squeezes_S1x1024x768_S1024x768).view.set]{fullShare} f)
    ∗ semVal ((c : Thread nD τ), SemLoc.dma ((cells.slice (Rect.unit (s := S8) ![j] S1.size hc)).squeeze S_ squeezes_S1_S_).sem) 0)

/-- The slots of blocks eight apart are one slot. -/
theorem free_add_eight (s : ℕ) : (free c (s + 8) : sProp 𝕄) = free c s := by
  have h : ∀ (j j' : ℕ) (e : j = j') hs hc hs' hc', (freeAt c j hs hc : sProp 𝕄) = freeAt c j' hs' hc' := by
    intro j j' e hs hc hs' hc'; subst e; rfl
  exact h ((s + 8) % 8) (s % 8) (by omega) (slot_inb _) (cell_inb _) (slot_inb _) (cell_inb _)

/-- The blocks below `s` have been used, those from `s` to `e` are in flight, those from `e` on are at home; the slots
    that the blocks from `e` to `z` will take are free. -/
def St (s e z : ℕ) : sProp 𝕄 :=
  iprop(bigSep (Finset.Ico 0 s) (home c W) ∗ bigSep (Finset.Ico s e) (flight c W) ∗ bigSep (Finset.Ico e z) (free c)
    ∗ bigSep (Finset.Ico e 128) (home c W))

variable (arg0 : Memref sig .tc .vmem S64x65536 .f32) (arg2 : Memref sig .tc .vmem S1x1536 .f32)
  (arg3 : Memref sig .tc .vmem S64x1536 .f32)

/-- What holds before step `s` when the blocks below `e` have been started. -/
def Inv (s e : ℕ) : sProp 𝕄 :=
  iprop(St c W s e (s + 8) ∗ owns (c : Thread nD τ) arg0 fullShare X ∗ owns (c : Thread nD τ) arg3 fullShare (acc X W b s)
    ∗ (∃ V, owes (c : Thread nD τ) 0 V))

/-- The start of the next copy. -/
theorem wp_start_next (s e z : ℕ) (hse : s ≤ e) (he : e < 128) (hz : e < z) (Q : PUnit → sProp 𝕄) :
    St c W s e z
      ⊢ iprop((St c W s (e + 1) z -∗ Q ⟨⟩) -∗
          wp frame (wpE (defs₀ (F := F)) Variants.none (c : Thread nD τ) none) Set.univ (startCopy wArr ring cells e) Q) := by
  unfold St
  rw [pop hz, pop he, push hse]
  iintro ⟨Hu, Hf, ⟨Hfree, Hfr⟩, ⟨Hh, Hhs⟩⟩ Hk
  iapply (wp_start c W e Q) $$ [Hh Hfree]
  · isplitl [Hh] <;> iassumption
  iintro Hfl
  iapply Hk
  isplitl [Hu]; · iexact Hu
  isplitl [Hfl Hf]
  · isplitl [Hfl] <;> iassumption
  isplitl [Hfr] <;> iassumption

/-- A landed slot, once used, is free again for the block eight further on. -/
theorem free_of_landed (s : ℕ) : iprop(landed c W s ∗ cellZero (F := F) c s) ⊢ (free c (s + 8) : sProp 𝕄) := by
  rw [free_add_eight]
  unfold landed free
  iintro ⟨⟨%f, -, Hs⟩, Hc⟩
  isplitl [Hs]
  · iexists f; iexact Hs
  · iexact Hc

/-- The wait for the oldest copy in flight. -/
theorem wp_await_oldest (s e : ℕ) (hse : s < e) (Q : PUnit → sProp 𝕄) :
    iprop(bigSep (Finset.Ico s e) (flight c W) ∗ (∃ V, owes (c : Thread nD τ) 0 V))
      ⊢ iprop(((bigSep (Finset.Ico (s + 1) e) (flight c W) ∗ landed c W s ∗ home c W s ∗ cellZero (F := F) c s
            ∗ (∃ V, owes (c : Thread nD τ) 0 V)) -∗ Q ⟨⟩) -∗
          wp frame (wpE (defs₀ (F := F)) Variants.none (c : Thread nD τ) none) Set.univ (waitCopy wArr ring cells s) Q) := by
  rw [pop hse]
  iintro ⟨⟨Hf, Hfs⟩, Ho⟩ Hk
  iapply (wp_await c W s Q) $$ [Hf Ho]
  · isplitl [Hf] <;> iassumption
  iintro H
  iapply Hk
  isplitl [Hfs] <;> iassumption

/-- One of the last steps. -/
theorem wp_stepEnd (s e : ℕ) (hse : s < e) (hes : e ≤ s + 8) (Q : PUnit → sProp 𝕄) :
    Inv c X W b arg0 arg3 s e
      ⊢ iprop((Inv c X W b arg0 arg3 (s + 1) e -∗ Q ⟨⟩) -∗
          wp frame (wpE (defs₀ (F := F)) Variants.none (c : Thread nD τ) none) Set.univ (stepEnd arg0 wArr arg3 ring cells s) Q) := by
  unfold Inv St stepEnd
  rw [wp_bind]
  iintro ⟨⟨Hu, Hf, Hfr, Hhs⟩, Hx, Ha, Ho⟩ Hk
  iapply (wp_await_oldest c W s e hse _) $$ [Hf Ho]
  · isplitl [Hf] <;> iassumption
  iintro ⟨Hf, Hl, Hh, Hc, Ho⟩
  iapply (wp_accumulate c W arg0 arg3 s X (acc X W b s) Q) $$ [Hl Hx Ha]
  · isplitl [Hl]; · iexact Hl
    isplitl [Hx] <;> iassumption
  iintro ⟨Hl, Hx, Ha⟩
  iapply Hk
  ihave Hfree := (free_of_landed c W s) $$ [Hl Hc]
  · isplitl [Hl] <;> iassumption
  rw [push (Nat.zero_le s), show s + 1 + 8 = s + 8 + 1 by omega, push hes]
  isplitl [Hu Hh Hf Hfree Hfr Hhs]
  · isplitl [Hu Hh]
    · isplitl [Hh] <;> iassumption
    isplitl [Hf]; · iexact Hf
    isplitl [Hfree Hfr]
    · isplitl [Hfree] <;> iassumption
    iexact Hhs
  isplitl [Hx]; · iexact Hx
  isplitl [Ha]; · iexact Ha
  iexact Ho

/-- A step that also starts a copy. -/
theorem wp_stepGo (s : ℕ) (hs : s + 4 < 128) (Q : PUnit → sProp 𝕄) :
    Inv c X W b arg0 arg3 s (s + 4)
      ⊢ iprop((Inv c X W b arg0 arg3 (s + 1) (s + 1 + 4) -∗ Q ⟨⟩) -∗
          wp frame (wpE (defs₀ (F := F)) Variants.none (c : Thread nD τ) none) Set.univ (stepGo arg0 wArr arg3 ring cells s) Q) := by
  unfold Inv St stepGo
  rw [wp_bind]
  iintro ⟨⟨Hu, Hf, Hfr, Hhs⟩, Hx, Ha, Ho⟩ Hk
  iapply (wp_await_oldest c W s (s + 4) (by omega) _) $$ [Hf Ho]
  · isplitl [Hf] <;> iassumption
  iintro ⟨Hf, Hl, Hh, Hc, Ho⟩
  rw [wp_bind]
  ihave HS := (show iprop((bigSep (Finset.Ico 0 s) (home c W) ∗ home c W s) ∗ bigSep (Finset.Ico (s + 1) (s + 4)) (flight c W)
      ∗ bigSep (Finset.Ico (s + 4) (s + 8)) (free c) ∗ bigSep (Finset.Ico (s + 4) 128) (home c W)) ⊢ St c W (s + 1) (s + 4) (s + 8) by
    unfold St; rw [push (Nat.zero_le s)]; iintro ⟨⟨H1, H2⟩, H3, H4, H5⟩
    isplitl [H1 H2]
    · isplitl [H2] <;> iassumption
    isplitl [H3]; · iexact H3
    isplitl [H4] <;> iassumption) $$ [Hu Hh Hf Hfr Hhs]
  · isplitl [Hu Hh]
    · isplitl [Hu] <;> iassumption
    isplitl [Hf]; · iexact Hf
    isplitl [Hfr] <;> iassumption
  iapply (wp_start_next c W (s + 1) (s + 4) (s + 8) (by omega) hs (by omega) _) $$ HS
  iintro HS
  iapply (wp_accumulate c W arg0 arg3 s X (acc X W b s) Q) $$ [Hl Hx Ha]
  · isplitl [Hl]; · iexact Hl
    isplitl [Hx] <;> iassumption
  iintro ⟨Hl, Hx, Ha⟩
  iapply Hk
  ihave Hfree := (free_of_landed c W s) $$ [Hl Hc]
  · isplitl [Hl] <;> iassumption
  unfold St
  icases HS with ⟨Hu, Hf, Hfr, Hhs⟩
  rw [show s + 1 + 8 = s + 8 + 1 by omega, show s + 1 + 4 = s + 4 + 1 by omega, push (show s + 4 + 1 ≤ s + 8 by omega)]
  isplitl [Hu Hf Hfree Hfr Hhs]
  · isplitl [Hu]; · iexact Hu
    isplitl [Hf]; · iexact Hf
    isplitl [Hfree Hfr]
    · isplitl [Hfree] <;> iassumption
    iexact Hhs
  isplitl [Hx]; · iexact Hx
  isplitl [Ha]; · iexact Ha
  iexact Ho

/-- Steps in a row keep what each of them keeps. -/
theorem wp_runs (J : ℕ → sProp 𝕄) (step : ℕ → Prog (TpuEff nD τ sig (Elt F) Λ₀ .tc) PUnit)
    (k : Prog (TpuEff nD τ sig (Elt F) Λ₀ .tc) PUnit) (Q : PUnit → sProp 𝕄) :
    ∀ n s, (∀ t, s ≤ t → t < s + n → ∀ R : PUnit → sProp 𝕄, J t ⊢ iprop((J (t + 1) -∗ R ⟨⟩) -∗
        wp frame (wpE (defs₀ (F := F)) Variants.none (c : Thread nD τ) none) Set.univ (step t) R)) →
      (J (s + n) ⊢ wp frame (wpE (defs₀ (F := F)) Variants.none (c : Thread nD τ) none) Set.univ k Q) →
      (J s ⊢ wp frame (wpE (defs₀ (F := F)) Variants.none (c : Thread nD τ) none) Set.univ (runs step k n s) Q) := by
  intro n
  induction n with
  | zero => intro s _ hk; exact hk
  | succ n ih =>
    intro s hstep hk
    unfold runs
    rw [wp_bind]
    iintro HJ
    iapply (hstep s le_rfl (by omega) _) $$ HJ
    iintro HJ
    iapply (ih (s + 1) (fun t h1 h2 => hstep t (by omega) (by omega)) (by rw [show s + 1 + n = s + (n + 1) by omega]; exact hk)) $$ HJ

/-- The prologue. -/
theorem wp_prologue (A₀ : FVec F S64x1536 .f32) (Q : PUnit → sProp 𝕄) :
    iprop(St c W 0 0 8 ∗ owns (c : Thread nD τ) arg2 fullShare b ∗ owns (c : Thread nD τ) arg3 fullShare A₀)
      ⊢ iprop(((St c W 0 4 8 ∗ owns (c : Thread nD τ) arg2 fullShare b ∗ owns (c : Thread nD τ) arg3 fullShare (biasRows b)) -∗ Q ⟨⟩) -∗
          wp frame (wpE (defs₀ (F := F)) Variants.none (c : Thread nD τ) none) Set.univ (prologue wArr arg2 arg3 ring cells) Q) := by
  unfold prologue owns
  iintro ⟨HS, ⟨%fb, %hb, Hb⟩, ⟨%fa, %ha, Ha⟩⟩ Hk
  rw [wp_bind]
  iapply (wp_start_next c W 0 0 8 (by omega) (by omega) (by omega) _) $$ HS
  iintro HS
  rw [wp_bind]
  iapply (wp_start_next c W 0 1 8 (by omega) (by omega) (by omega) _) $$ HS
  iintro HS
  rw [wp_bind]
  iapply (wp_start_next c W 0 2 8 (by omega) (by omega) (by omega) _) $$ HS
  iintro HS
  rw [wp_bind]
  iapply (wp_start_next c W 0 3 8 (by omega) (by omega) (by omega) _) $$ HS
  iintro HS
  iapply (wp_load_rect Variants.none (c : Thread nD τ) none Set.univ (m := arg2)
    (r := Rect.unit (s := S1x1536) ![0, 0] S1x1536.size inb_S1x1536_S1x1536_0_0) (View.set_slice_subset _ _)) $$ Hb
  iintro Hb
  iapply (wp_load_rect Variants.none (c : Thread nD τ) none Set.univ (m := arg3)
    (r := Rect.unit (s := S64x1536) ![0, 0] S64x1536.size inb_S64x1536_S64x1536_0_0) (View.set_slice_subset _ _)) $$ Ha
  iintro Ha
  iapply (wp_store Variants.none (c : Thread nD τ) none Set.univ (m := arg3)
    (r := Rect.unit (s := S64x1536) ![0, 0] S64x1536.size inb_S64x1536_S64x1536_0_0) (View.set_slice_subset _ _)) $$ Ha
  iintro Ha
  rw [wp_ret]
  imodintro
  iapply Hk
  isplitl [HS]; · iexact HS
  isplitl [Hb]
  · iexists fb
    isplitr; · ipureintro; exact hb
    iexact Hb
  · iexists _
    isplitr
    swap; · iexact Ha
    ipureintro
    refine (View.read_writes_full arg3.view fa inb_S64x1536_S64x1536_0_0 _ []).trans ?_
    exact congrArg biasRows ((View.readAt_full arg2.view fb inb_S1x1536_S1x1536_0_0).trans hb)

/-- The whole body: from every block at home and every slot free, to the same, with the result holding the bias and
    all 128 products. -/
theorem wp_body (A₀ : FVec F S64x1536 .f32) (Q : PUnit → sProp 𝕄) :
    iprop(St c W 0 0 8 ∗ owns (c : Thread nD τ) arg0 fullShare X ∗ owns (c : Thread nD τ) arg2 fullShare b
        ∗ owns (c : Thread nD τ) arg3 fullShare A₀ ∗ (∃ V, owes (c : Thread nD τ) 0 V))
      ⊢ iprop(((St c W 128 128 136 ∗ owns (c : Thread nD τ) arg0 fullShare X ∗ owns (c : Thread nD τ) arg2 fullShare b
            ∗ owns (c : Thread nD τ) arg3 fullShare (acc X W b 128) ∗ (∃ V, owes (c : Thread nD τ) 0 V)) -∗ Q ⟨⟩) -∗
          wp frame (wpE (defs₀ (F := F)) Variants.none (c : Thread nD τ) none) Set.univ (body arg0 wArr arg2 arg3 ring cells) Q) := by
  unfold body
  rw [wp_bind]
  iintro ⟨HS, Hx, Hb, Ha, Ho⟩ Hk
  iapply (wp_prologue c W b arg2 arg3 A₀ _) $$ [HS Hb Ha]
  · isplitl [HS]; · iexact HS
    isplitl [Hb] <;> iassumption
  iintro ⟨HS, Hb, Ha⟩
  let R : sProp 𝕄 := iprop(owns (c : Thread nD τ) arg2 fullShare b ∗ ((St c W 128 128 136 ∗ owns (c : Thread nD τ) arg0 fullShare X ∗ owns (c : Thread nD τ) arg2 fullShare b
            ∗ owns (c : Thread nD τ) arg3 fullShare (acc X W b 128) ∗ (∃ V, owes (c : Thread nD τ) 0 V)) -∗ Q ⟨⟩))
  iapply (wp_runs c (fun s => iprop(Inv c X W b arg0 arg3 s (s + 4) ∗ R)) (stepGo arg0 wArr arg3 ring cells) _ Q 124 0 ?_ ?_) $$ [HS Hx Ha Ho Hb Hk]
  · intro t _ ht R'
    iintro ⟨HI, HR⟩ Hk'
    iapply (wp_stepGo c X W b arg0 arg3 t (by omega) R') $$ HI
    iintro HI
    iapply Hk'
    isplitl [HI] <;> iassumption
  · refine wp_runs c (fun s => iprop(Inv c X W b arg0 arg3 s 128 ∗ R)) (stepEnd arg0 wArr arg3 ring cells) _ Q 4 124 ?_ ?_
    · intro t h1 h2 R'
      iintro ⟨HI, HR⟩ Hk'
      iapply (wp_stepEnd c X W b arg0 arg3 t 128 (by omega) (by omega) R') $$ HI
      iintro HI
      iapply Hk'
      isplitl [HI] <;> iassumption
    · show iprop(Inv c X W b arg0 arg3 128 128 ∗ R) ⊢ wp frame _ Set.univ (Prog.ret ⟨⟩) Q
      rw [wp_ret]
      unfold Inv
      iintro ⟨⟨HS, Hx, Ha, Ho⟩, Hb, Hk⟩
      imodintro
      iapply Hk
      isplitl [HS]; · iexact HS
      isplitl [Hx]; · iexact Hx
      isplitl [Hb]; · iexact Hb
      isplitl [Ha] <;> iassumption
  · isplitl [HS Hx Ha Ho]
    · unfold Inv
      isplitl [HS]; · iexact HS
      isplitl [Hx]; · iexact Hx
      isplitl [Ha]; · iexact Ha
      iexact Ho
    · isplitl [Hb] <;> iassumption

end

end Cert.Hand
-- ==== Proof.Pieces.lean ====
/-
  The buffers cut into the body's pieces, and put together again.

  The flattened weight is its 128 blocks, the ring is its eight slots, and the eight semaphores are one for each slot.
  So whole buffers are the state before the first step, and the state after the last step is whole buffers.
-/
module

public import proofs.«01_k».proof.Proof.Body

@[expose] public section

set_option maxRecDepth 16384

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (W : FVec F S131072x768 .f32)

/-- The elements of the flattened weight that make block `b`. -/
def rowsI (b : Fin 128) : Finset (Idx ((c : Thread nD τ).loc main_v0)) := (rowsR b.val).set

/-- The elements of the ring that make slot `b`. -/
def slotI (b : Fin 8) : Finset (Idx ((c : Thread nD τ).loc cc0_scratch0)) := (slotR b.val).set

/-- Different blocks share no element. -/
theorem rows_disjoint (b b' : Fin 128) (h : b ≠ b') : Disjoint (rowsI c b) (rowsI c b') :=
  Ring.lead_disjoint (s := S131072x768) (0 : Fin 2) 1024 (fun b : Fin 128 => ![1024 * (b.val % 128), 0]) S1024x768.size
    (fun b => rows_inb b.val) (fun b => by simp [Nat.mod_eq_of_lt b.isLt]) rfl b b' h

/-- The blocks are the whole flattened weight. -/
theorem rows_cover : Finset.univ.biUnion (rowsI c) = Finset.univ :=
  Ring.lead_cover (s := S131072x768) (0 : Fin 2) 1024 (fun b : Fin 128 => ![1024 * (b.val % 128), 0]) S1024x768.size
    (fun b => rows_inb b.val) (fun b => by simp [Nat.mod_eq_of_lt b.isLt])
    (fun b a ha => by fin_cases a <;> first | rfl | exact absurd rfl ha) rfl
    (fun a ha => by fin_cases a <;> first | rfl | exact absurd rfl ha) rfl

/-- Different slots share no element. -/
theorem slots_disjoint (b b' : Fin 8) (h : b ≠ b') : Disjoint (slotI c b) (slotI c b') :=
  Ring.lead_disjoint (s := S8x1024x768) (0 : Fin 3) 1 (fun b : Fin 8 => ![b.val % 8, 0, 0]) S1x1024x768.size
    (fun b => slot_inb b.val) (fun b => by simp [Nat.mod_eq_of_lt b.isLt]) rfl b b' h

/-- The slots are the whole ring. -/
theorem slots_cover : Finset.univ.biUnion (slotI c) = Finset.univ :=
  Ring.lead_cover (s := S8x1024x768) (0 : Fin 3) 1 (fun b : Fin 8 => ![b.val % 8, 0, 0]) S1x1024x768.size
    (fun b => slot_inb b.val) (fun b => by simp [Nat.mod_eq_of_lt b.isLt])
    (fun b a ha => by fin_cases a <;> first | rfl | exact absurd rfl ha) rfl
    (fun a ha => by fin_cases a <;> first | rfl | exact absurd rfl ha) rfl

/-- Block `s` at home, by the elements it is made of. -/
theorem home_eq (s : ℕ) (h : s < 128) :
    (home c W s : sProp 𝕄) = ((c : Thread nD τ).loc main_v0 ↦[rowsI c ⟨s, h⟩]{fullShare} W) := by
  have e : (rowsM wArr s).view.set = (rowsR s).set := View.set_slice_whole _ _
  unfold home rowsI
  rw [e]

/-- Slot `s` with contents `f`, by the elements it is made of. -/
theorem slotPt_eq (s : ℕ) (h : s < 8) (f) :
    (slotPt c s f : sProp 𝕄) = ((c : Thread nD τ).loc cc0_scratch0 ↦[slotI c ⟨s, h⟩]{fullShare} f) := by
  have e : (slotM ring s).view.set = (slotR s).set :=
    (View.set_reshape (v := ring.view.slice (slotR s)) _).trans (View.set_slice_whole _ _)
  unfold slotPt slotI
  rw [e]

/-- The flattened weight is its 128 blocks at home. -/
theorem weight_homes :
    ((c : Thread nD τ).loc main_v0 ↦{fullShare} W : sProp 𝕄) = bigSep (Finset.Ico 0 128) (home c W) := by
  rw [Ring.pointsTo_blocks (rowsI c) (rows_disjoint c) (rows_cover c),
    Ring.bigSep_fin_eq_range 128 _ (home c W) (fun t h => home_eq c W t h), Finset.range_eq_Ico]

/-- A slot with contents `f` holds something. -/
theorem slot_some (b : Fin 8) (f) :
    ((c : Thread nD τ).loc cc0_scratch0 ↦[slotI c b]{fullShare} f : sProp 𝕄) ⊢ iprop(∃ f, slotPt (F := F) c b.val f) := by
  rw [← slotPt_eq c b.val b.isLt f]
  iintro H
  iexists f; iexact H

/-- A ring holding something is eight slots holding something. -/
theorem ring_slots :
    (iprop(∃ d, (c : Thread nD τ).loc cc0_scratch0 ↦{fullShare} d) : sProp 𝕄)
      ⊢ bigSep (Finset.Ico 0 8) fun s => iprop(∃ f, slotPt (F := F) c s f) := by
  iintro ⟨%d, H⟩
  iapply (show (iprop((c : Thread nD τ).loc cc0_scratch0 ↦{fullShare} d) : sProp 𝕄) ⊢ _ from ?_) $$ H
  rw [Ring.pointsTo_blocks (slotI c) (slots_disjoint c) (slots_cover c), ← Finset.range_eq_Ico,
    ← Ring.bigSep_fin_eq_range 8 (fun b => iprop(∃ f, slotPt (F := F) c b.val f)) _ (fun t h => rfl)]
  exact bigSep_mono fun b _ => slot_some c b d

/-- Eight slots holding something are a ring holding something. -/
theorem slots_ring :
    (bigSep (Finset.Ico 0 8) fun s => iprop(∃ f, slotPt (F := F) c s f))
      ⊢ (iprop(∃ d, (c : Thread nD τ).loc cc0_scratch0 ↦{fullShare} d) : sProp 𝕄) := by
  rw [← Finset.range_eq_Ico,
    ← Ring.bigSep_fin_eq_range 8 (fun b => iprop(∃ f, (c : Thread nD τ).loc cc0_scratch0 ↦[slotI c b]{fullShare} f)) _
      (fun t h => by dsimp only; simp only [slotPt_eq c t h])]
  exact Ring.pointsTo_blocks_join_exists (slotI c) (slots_disjoint c) (slots_cover c) (fun _ => default)

/-- The eight semaphores at zero. -/
def cellsZero : sProp 𝕄 := bigSep (Finset.Ico 0 8) (cellZero (F := F) c)

/-- The eight slots free: the ring holds something and the semaphores stand at zero. -/
theorem free_eight :
    (bigSep (Finset.Ico 0 8) (free (F := F) c) : sProp 𝕄)
      = iprop(bigSep (Finset.Ico 0 8) (fun s => iprop(∃ f, slotPt (F := F) c s f)) ∗ cellsZero (F := F) c) := by
  unfold free cellsZero
  exact bigSep_sep' _ _ _

/-- Any eight slots in a row are the eight slots. -/
theorem free_shift (n : ℕ) : (bigSep (Finset.Ico n (n + 8)) (free (F := F) c) : sProp 𝕄) = bigSep (Finset.Ico 0 8) (free c) := by
  induction n with
  | zero => rfl
  | succ n ih =>
    rw [show n + 1 + 8 = n + 8 + 1 by omega, push (by omega : n + 1 ≤ n + 8), free_add_eight, ← pop (by omega : n < n + 8), ih]

/-- Before the first step: the weight at home and every slot free. -/
theorem St_start :
    iprop(((c : Thread nD τ).loc main_v0 ↦{fullShare} W) ∗ (∃ d, (c : Thread nD τ).loc cc0_scratch0 ↦{fullShare} d)
        ∗ cellsZero (F := F) c) ⊢ (St c W 0 0 8 : sProp 𝕄) := by
  unfold St
  rw [weight_homes, free_eight, Finset.Ico_self, bigSep_empty, bigSep_empty]
  iintro ⟨HW, HR, HC⟩
  isplitr; · iempintro
  isplitr; · iempintro
  isplitl [HR HC]
  · isplitl [HR]
    · iapply (ring_slots (F := F) c); iexact HR
    · iexact HC
  · iexact HW

/-- After the last step: the weight at home and every slot free. -/
theorem St_end :
    (St c W 128 128 136 : sProp 𝕄) ⊢
      iprop(((c : Thread nD τ).loc main_v0 ↦{fullShare} W) ∗ (∃ d, (c : Thread nD τ).loc cc0_scratch0 ↦{fullShare} d)
        ∗ cellsZero (F := F) c) := by
  unfold St
  rw [weight_homes, free_shift c 128, free_eight]
  iintro ⟨HW, -, ⟨HR, HC⟩, -⟩
  isplitl [HW]; · iexact HW
  isplitl [HR]
  · iapply (slots_ring (F := F) c); iexact HR
  · iexact HC

end

end Cert.Hand
-- ==== Proof.Launch.lean ====
/-
  The whole program, run.

  The host reshapes the weight and the bias, the kernel runs once, and the host reshapes the kernel's result. At the
  end the arguments are as they were, every semaphore stands at zero, and the result is the kernel's last accumulated
  value, reshaped. The values are left as the definitions of the body state them, for any kind of float.
-/
module

public import proofs.«01_k».proof.Proof.Pieces
public import Idealize.ShloMosaic.Lib.Pipeline.ValueKit.Geometry

@[expose] public section

set_option maxRecDepth 16384

noncomputable section

namespace Cert.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program around the kernel -/

set_option maxHeartbeats 800000 in
/-- The program is its two reshapes, the kernel, and the last reshape. -/
theorem main_around (𝒱₀ : Variants) :
    Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The kernel's own semaphores: one for each slot of the ring. -/
def ownSem : Fin 8 → SemLoc sig := fun j => SemLoc.dma (cellS cells j.val)

/-- They are distinct, and none belongs to a window. -/
theorem ownSem_facts : Pipeline.OwnSemFacts spec0 ownSem := by decide

/-- The array that the kernel copies from by itself. -/
def copied : Finset (Ref sig .tc) := {main_v0}

/-- It is no window's array. -/
theorem copied_sub : copied ⊆ Pipeline.restRefs sig spec0 := by decide

/-- The last reshape does not touch it. -/
theorem last_but : ∀ ops ∈ ([hostOps1] : List (List (HloOp τ sig (Elt F)))), ∀ op ∈ ops,
    op.bufs ⊆ Pipeline.tailRefsBut sig Pipeline.Prefetch.none spec0 copied := by
  intro ops hops op hop
  obtain rfl := List.mem_singleton.mp hops
  refine Pipeline.sub_tailRefsBut Pipeline.Prefetch.none spec0 copied op
    ((List.forall_iff_forall_mem.mp hostOps1_sub) op hop) (fun j => j.elim0) ?_
  obtain rfl := List.mem_singleton.mp hop
  intro b hb
  obtain rfl := Finset.mem_singleton.mp hb
  simp only [StableHlo.reshape_bufs, Finset.mem_insert, Finset.mem_singleton, not_or]
  and_intros <;> exact StableHlo.devRef_ne_of_ne (by decide)

/-- The kernel's semaphores at zero, slot by slot. -/
theorem ownSems_eq (c : Dev nD) :
    (Pipeline.ownSems0 (Ix := Unit) (Val := Elt F) (Name := ℕ) (U := Pipeline.UD sig nD τ) (Lvl := ℕ) (τ := τ) ownSem c : sProp 𝕄)
      = cellsZero (F := F) c := by
  unfold Pipeline.ownSems0 cellsZero
  rw [← Finset.range_eq_Ico]
  exact Ring.bigSep_fin_eq_range 8 _ _ (fun t h => rfl)

/-- What the kernel holds besides its windows: a ring holding something, its generator, its semaphores at zero, and
    the flattened weight. -/
theorem held_eq (c : Dev nD) :
    (Pipeline.ΦD ownSem spec0 copied (V m) c : sProp 𝕄)
      = iprop((∃ d, (c : Thread nD τ).loc cc0_scratch0 ↦{fullShare} d) ∗ (∃ r, prngReg c r) ∗ cellsZero (F := F) c
          ∗ ((c : Thread nD τ).loc main_v0 ↦{fullShare} V m c main_v0)) := by
  rw [Pipeline.ΦD_eq, scopedRest0_eq, ownSems_eq, BI.bigSep_eq_bigSepL_of_eq [main_v0] (S := copied) (by decide) (by decide)]
  rfl

/-! ## The kernel's run, as the pipeline asks for it -/

/-- What each window's buffer holds after the body: the activations and the bias as they were, and the last
    accumulated value. -/
def pdats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => acc (iblk m c 0 t) (V m c main_v0) (iblk m c 1 t) 128
  Φ _ := Pipeline.ΦD ownSem spec0 copied (V m) c
  q _ := fullShare
  owed _ := 0

/-- The arrays are what the kernel finds. -/
theorem pdats_arr (c : Dev nD) (w : Fin cfg0.W) : (pdats m 0 c).A w = V m c (Pipeline.arrRef spec0 w) := by
  dsimp only [pdats]

/-- The activations stay. -/
theorem left_0 (c : Dev nD) (t : Fin cfg0.N) : (pdats m 0 c).after 0 t = iblk m c 0 t := by dsimp only [pdats]
/-- The bias stays. -/
theorem left_1 (c : Dev nD) (t : Fin cfg0.N) : (pdats m 0 c).after 1 t = iblk m c 1 t := by dsimp only [pdats]
/-- The result is the last accumulated value. -/
theorem left_2 (c : Dev nD) (t : Fin cfg0.N) :
    (pdats m 0 c).after 2 t = acc (iblk m c 0 t) (V m c main_v0) (iblk m c 1 t) 128 := by dsimp only [pdats]

/-- The activations' buffer holds them when the body starts. -/
theorem found_0 (c : Dev nD) (t : Fin cfg0.N) (d) : (pdats m 0 c).before 0 t d = iblk m c 0 t :=
  ((pdats m 0 c).before_in_eq_fetched 0 rfl (fun _ => rfl) (fun _ _ _ => rfl)
    (fun t => by rw [left_0]; unfold Dat.blockOf iblk; rw [pdats_arr]; try rfl) t d).trans
    (by unfold Dat.fetched Dat.blockOf iblk; rw [pdats_arr]; try rfl)

/-- The bias's buffer holds it when the body starts. -/
theorem found_1 (c : Dev nD) (t : Fin cfg0.N) (d) : (pdats m 0 c).before 1 t d = iblk m c 1 t :=
  ((pdats m 0 c).before_in_eq_fetched 1 rfl (fun _ => rfl) (fun _ _ _ => rfl)
    (fun t => by rw [left_1]; unfold Dat.blockOf iblk; rw [pdats_arr]; try rfl) t d).trans
    (by unfold Dat.fetched Dat.blockOf iblk; rw [pdats_arr]; try rfl)

/-- What the body is called with. -/
def given (c : Dev nD) (t : Fin cfg0.N) : sProp 𝕄 :=
  iprop((pdats m 0 c).Φ t.castSucc ∗ (pdats m 0 c).owesAt () t.castSucc
    ∗ (∃ d, owns (c : Thread nD τ) (st0_0 t) fullShare ((pdats m 0 c).before 0 t d))
    ∗ (∃ d, owns (c : Thread nD τ) (st0_1 t) fullShare ((pdats m 0 c).before 1 t d))
    ∗ (∃ d, owns (c : Thread nD τ) (st0_2 t) fullShare ((pdats m 0 c).before 2 t d)))

/-- What the body gives back. -/
def givenBack (c : Dev nD) (t : Fin cfg0.N) : sProp 𝕄 :=
  iprop((pdats m 0 c).Φ t.succ ∗ (pdats m 0 c).owesAt () t.succ
    ∗ owns (c : Thread nD τ) (st0_0 t) fullShare ((pdats m 0 c).after 0 t)
    ∗ owns (c : Thread nD τ) (st0_1 t) fullShare ((pdats m 0 c).after 1 t)
    ∗ owns (c : Thread nD τ) (st0_2 t) fullShare ((pdats m 0 c).after 2 t))

/-- The body does what the pipeline asks. -/
theorem body_sound (c : Dev nD) (t : Fin cfg0.N) :
    given m c t ⊢ wp frame (wpE (defs₀ (F := F)) Variants.none c none) Set.univ (bodyAt0 t) (fun _ => givenBack m c t) := by
  unfold given givenBack bodyAt0
  rw [kernel_eq_body]
  simp only [found_0, found_1]
  rw [show (pdats m 0 c).Φ t.succ = (pdats m 0 c).Φ t.castSucc from rfl, left_0, left_1, left_2]
  rw [show (pdats m 0 c).Φ t.castSucc = Pipeline.ΦD ownSem spec0 copied (V m) c from rfl, held_eq]
  unfold Dat.owesAt Pipeline.owesWithin
  rw [show (pdats m 0 c).owed t.castSucc = 0 from rfl, show (pdats m 0 c).owed t.succ = 0 from rfl]
  iintro ⟨⟨HR, Hg, HC, HW⟩, ⟨%U, -, Ho⟩, ⟨%d0, H0⟩, ⟨%d1, H1⟩, ⟨%d2, H2⟩⟩
  iapply (wp_body c (iblk m c 0 t) (V m c main_v0) (iblk m c 1 t) (st0_0 t) (st0_1 t) (st0_2 t) _ _) $$ [HR HC HW Ho H0 H1 H2]
  · isplitl [HR HC HW]
    · iapply (St_start c (V m c main_v0))
      isplitl [HW]; · iexact HW
      isplitl [HR]; · iexact HR
      iexact HC
    isplitl [H0]; · iexact H0
    isplitl [H1]; · iexact H1
    isplitl [H2]; · iexact H2
    iexists U; iexact Ho
  iintro ⟨HS, H0, H1, H2, ⟨%U', Ho⟩⟩
  ihave HS' := (St_end c (V m c main_v0)) $$ HS
  icases HS' with ⟨HW, HR, HC⟩
  isplitl [HR Hg HC HW]
  · isplitl [HR]; · iexact HR
    isplitl [Hg]; · iexact Hg
    isplitl [HC]; · iexact HC
    iexact HW
  isplitl [Ho]
  · iexists U'; isplitr; · ipureintro; exact fun _ _ => Or.inl trivial
    iexact Ho
  isplitl [H0]; · iexact H0
  isplitl [H1]; · iexact H1
  iexact H2

/-- The body's entry in the program's table is the body. -/
theorem table_row (t : Fin cfg0.N) : defs₀ (F := F) .tc cfg0.body (cfg0.bodyArgs t (cfg0.slots t)) = bodyAt0 t := by
  unfold defs₀; rw [Defs.onTc_tc]

/-- The pipeline's demand on the body is met. -/
theorem body_meets (c : Dev nD) : BodyObligation (pdats (F := F) m 0 c) (defs₀ (F := F)) Variants.none () Set.univ := fun t => by
  rw [bigSep_W0, bigSep_W0, table_row]
  exact triple_restated (body_sound m c t) rfl .rfl fun _ => .rfl

/-! ## The program's run -/

set_option backward.isDefEq.respectTransparency.types false in
set_option maxHeartbeats 800000 in
/-- The program runs; at its end the windows' arrays and the host's buffers hold what they should, and every semaphore
    stands at zero. -/
theorem program_run :
    θ_run defs (onTc (τ := τ) (main (F := F))) (s₀ m ρ) (fun r =>
      Pipeline.FramePost cfgs (pdats m) 0 (Pipeline.afterTail₀ cfgs (pdats m) 0 (V0 m) [hostOps1]) r ∧ r.2.sem = fun _ => 0) :=
  Pipeline.θ_run_frame_dma_around (Q' := _) cfgs (pdats m) (0 : Fin 1) launch0 ownSem defs₀ Variants.none ownSem_facts copied copied_sub m ρ main
    (hbody := fun c => (body_meets m c).loose) (hshare := fun c => (pdats m 0 c).share_full fun _ => rfl)
    (howed := fun _ _ => rfl) (V₀ := V0 m) (opss := [hostOps1]) (hsub := last_but) (hfresh := sfx_fresh) (hkeep := sfx_keeps)
    (hmain := main_around m Variants.none) (hA := pdats_arr m) (hin := fun _ => .rfl) (hout := fun _ => .rfl)

/-! ## What the program leaves -/

/-- The flattened weight, as the kernel finds it. -/
theorem weight_eq (c : Dev nD) :
    V m c main_v0 = shapeCast S131072x768 (m ((c : Thread nD τ).loc main_arg1)) shapeCasts_S2x65536x768_S131072x768 := by
  dsimp only [V, V0, hostOps0, List.flatten_cons, List.flatten_nil, List.append_nil, List.cons_append, List.nil_append]
  after_results
  rfl

/-- The flattened bias, as the kernel finds it. -/
theorem bias_eq (c : Dev nD) :
    V m c main_v1 = shapeCast S1x1536 (m ((c : Thread nD τ).loc main_arg2)) shapeCasts_S2x768_S1x1536 := by
  dsimp only [V, V0, hostOps0, List.flatten_cons, List.flatten_nil, List.append_nil, List.cons_append, List.nil_append]
  after_results
  rfl

/-- The activations' window is the whole array. -/
theorem window_0 (c : Dev nD) (t : Fin cfg0.N) : iblk m c 0 t = m ((c : Thread nD τ).loc main_arg0) := by
  rw [← V_main_arg0 m c]
  funext y
  have e : ∀ t : Fin cfg0.N, win0_0.index t = ![0, 0] := (by decide +kernel : ∀ t : Fin grid0.N, _)
  refine congrArg (V m c main_arg0) (?_ : (win0_0.blk t).view.emb y = y)
  blk_ext [e]

/-- The bias's window is the whole flattened bias. -/
theorem window_1 (c : Dev nD) (t : Fin cfg0.N) : iblk m c 1 t = V m c main_v1 := by
  funext y
  have e : ∀ t : Fin cfg0.N, win0_1.index t = ![0, 0] := (by decide +kernel : ∀ t : Fin grid0.N, _)
  refine congrArg (V m c main_v1) (?_ : (win0_1.blk t).view.emb y = y)
  blk_ext [e]

/-- The kernel's result array ends as the last accumulated value. -/
theorem result_arr (c : Dev nD) :
    (pdats m 0 c).arrAt 2 cfg0.N = acc (m ((c : Thread nD τ).loc main_arg0)) (V m c main_v0) (V m c main_v1) 128 := by
  refine (pdats m 0 c).arrAt_eq_of_after_last 2 t0_0 (by decide +kernel) _ fun j => ?_
  rw [left_2, window_0, window_1]
  blk_simp

/-- The value the program computes: the last accumulated value of its arguments, reshaped. -/
def computed (X : FVec F S64x65536 .f32) (w : FVec F S2x65536x768 .f32) (b : FVec F S2x768 .f32) : FVec F S64x2x768 .f32 :=
  shapeCast S64x2x768 (acc X (shapeCast S131072x768 w shapeCasts_S2x65536x768_S131072x768)
    (shapeCast S1x1536 b shapeCasts_S2x768_S1x1536) 128) shapeCasts_S64x1536_S64x2x768

/-- The last reshape leaves the value. -/
theorem left_v3 (c : Dev nD) :
    Pipeline.afterTail₀ cfgs (pdats m) 0 (V0 m) [hostOps1] c main_v3
      = computed (m ((c : Thread nD τ).loc main_arg0)) (m ((c : Thread nD τ).loc main_arg1)) (m ((c : Thread nD τ).loc main_arg2)) := by
  unfold Pipeline.afterTail₀
  have e : Pipeline.withArrays (cfgs 0).spec c (V0 m c) (fun w => (pdats m 0 c).arrAt w (cfgs 0).N) (Proc.devRef .tc main_v2)
      = acc (m ((c : Thread nD τ).loc main_arg0)) (V m c main_v0) (V m c main_v1) 128 :=
    (Pipeline.withArrays_arr (cfgs 0).spec launch0.win.arr_inj c (V0 m c) _ 2).trans (result_arr m c)
  rw [weight_eq, bias_eq] at e
  simp only [hostOps1, List.flatten_cons, List.flatten_nil, List.append_nil]
  after_results
  rw [e]
  rfl

/-- The last reshape leaves an argument that is no window's array. -/
theorem left_arg (c : Dev nD) (b : Ref sig .tc) (h3 : b ≠ main_v3) (hw : ∀ w, Pipeline.arrRef spec0 w ≠ b) :
    Pipeline.afterTail₀ cfgs (pdats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes,
        Finset.mem_singleton]
      exact StableHlo.devRef_ne_of_ne h3)),
    Pipeline.withArrays_of_ne _ c (V0 m c) _ b (by exact hw)]

/-- The program's run, read at the result and the arguments: the result is the value computed, the arguments are as
    they were, and every semaphore stands at zero. -/
theorem program_spec :
    θ_run defs (onTc (τ := τ) (main (F := F))) ⟨m, fun _ => 0, ρ⟩ (fun r => (∀ c : Dev nD,
      r.2.mem ((c.tc : Thread nD τ).loc main_v3)
          = computed (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨
      ((h.1 c).2 main_v3 (Pipeline.mem_restRefs_of main_v3 (by decide) (by decide))).trans (left_v3 m c),
      ((h.1 c).1 0).trans (((pdats m 0 c).arrAt_in 0 rfl _).trans ((pdats_arr m c 0).trans (V_main_arg0 m c))),
      ((h.1 c).2 main_arg1 (Pipeline.mem_restRefs_of main_arg1 (by decide) (by decide))).trans
        ((left_arg m c main_arg1 (by decide) (by decide)).trans (V_main_arg1 m c)),
      ((h.1 c).2 main_arg2 (Pipeline.mem_restRefs_of main_arg2 (by decide) (by decide))).trans
        ((left_arg m c main_arg2 (by decide) (by decide)).trans (V_main_arg2 m c))⟩, h.2⟩) (program_run m ρ)

end Cert.Hand
-- ==== Proof.Same.lean ====
/-
  The printed program and its ideal reading are one text.

  The run proved of the ideal program holds for any kind of float, so it holds for bits; and there the ideal program is
  the printed program itself.
-/
module

public import proofs.«01_k».proof.Proof.Launch
public import proofs.«01_k».proof.Proof.Gen.Kernel.Frame
public import proofs.«01_k».proof.Defs

@[expose] public section

set_option maxRecDepth 65536

noncomputable section

namespace Cert.Hand

open Idealize.ShloMosaic Idealize.ShloMosaic.TcCoe Idealize.SL.Sem

variable {F : FTy → Type} [FloatOps F]

/-- The kernel body of the printed program is the kernel body of the ideal one. -/
theorem bodies_same (a0 h0 a1 h1 a2 h2 a3 h3 a4 h4 a5) :
    Cert.Kernel.cc0__decode_kernel (F := F) a0 h0 a1 h1 a2 h2 a3 h3 a4 h4 a5
      = Cert.KernelIdeal.cc0__decode_kernel (F := F) a0 h0 a1 h1 a2 h2 a3 h3 a4 h4 a5 := by
  chain_rfl

/-- The kernel's name stands for one body in both programs. -/
theorem kernels_same : Cert.Kernel.defs₀ (F := F) = Cert.KernelIdeal.defs₀ (F := F) := by
  refine congrArg Defs.onTc ?_
  funext l x
  match l, x with
  | 0, (t, s) => exact bodies_same _ _ _ _ _ _ _ _ _ _ _
  | ⟨_ + 1, h⟩, _ => exact absurd h (Nat.not_lt.2 (Nat.le_add_left _ _))

/-- The calls around the kernel are one list in both programs. -/
theorem calls_same : Cert.Kernel.pcfgs (F := F) = Cert.KernelIdeal.pcfgs (F := F) := by
  rfl

/-- Every name the printed program calls stands for what it stands for in the ideal one. -/
theorem defs_same : Cert.Kernel.defs (F := F) = Cert.KernelIdeal.defs (F := F) :=
  congrArg (Pipeline.defs (Cert.KernelIdeal.pcfgs (F := F))) kernels_same

/-- The printed host program is the ideal one. -/
theorem main_same : Cert.Kernel.main (F := F) = Cert.KernelIdeal.main (F := F) := by
  rfl

/-- The printed program, on bits, runs to the end: its arguments are unchanged and its semaphores are at zero. -/
theorem kernel_runs : Cert.quiescent_Kernel (hKernel := Cert.Kernel.Gen.facts) := by
  intro m g _
  rw [defs_same, main_same]
  exact (θ_run (Cert.KernelIdeal.defs (F := Bits)) _ _).mono (fun r h => ⟨fun c => (h.1 c).2, h.2⟩) (program_spec (F := Bits) m g)

end Cert.Hand
-- ==== Proof.Product.lean ====
/-
  What one step adds, element by element, over the extended reals.

  Step `s` multiplies 1024 columns of the activations by 1024 rows of the flattened weight. Its product lands in one
  half of the result, and the other half keeps its values.
-/
module

public import proofs.«01_k».proof.Proof.Body
public import Idealize.ShloMosaic.Lib.MatmulPlain
public import Idealize.ShloMosaic.Lib.ValueIdx

@[expose] public section

noncomputable section

namespace Cert.Hand

open Cert.KernelIdeal Cert.KernelIdeal.Gen
open Idealize.ShloMosaic Idealize.ShloMosaic.ValueIdx
open scoped BigOperators

/-- The index of row `i` and column `1024 * (t % 64) + k` of the activations. -/
abbrev atX (t : ℕ) (i : Fin 64) (k : Fin 1024) : S64x65536.Idx :=
  ix2 i ⟨1024 * (t % 64) + k.val, by have := k.isLt; omega⟩

/-- The index of row `1024 * (t % 128) + k` and column `d` of the flattened weight. -/
abbrev atW (t : ℕ) (k : Fin 1024) (d : Fin 768) : S131072x768.Idx :=
  ix2 ⟨1024 * (t % 128) + k.val, by have := k.isLt; omega⟩ d

/-- The product of step `t`'s two blocks, at row `i` and column `d`. -/
def part (X : FVec Ideal S64x65536 .f32) (W : FVec Ideal S131072x768 .f32) (t : ℕ) (i : Fin 64) (d : Fin 768) : EReal :=
  ∑ k : Fin 1024, X (atX t i k) * W (atW t k d)

/-- The block of activations that step `t` reads, at row `i` and column `k`. -/
theorem cols_apply (X : FVec Ideal S64x65536 .f32) (t : ℕ) (i : Fin 64) (k : Fin 1024) :
    VecWindow.window X ![0, 1024 * (t % 64)] S64x1024.size (cols_inb t) (ix2 i k) = X (atX t i k) := by
  refine congrArg X (funext fun a => Fin.ext ?_)
  match a with
  | ⟨0, _⟩ => show 0 + 1 * i.val = i.val; omega
  | ⟨1, _⟩ => show 1024 * (t % 64) + 1 * k.val = 1024 * (t % 64) + k.val; omega

/-- The block of the weight that step `t` reads, at row `k` and column `d`. -/
theorem block_apply (W : FVec Ideal S131072x768 .f32) (t : ℕ) (k : Fin 1024) (d : Fin 768) :
    block W t (ix2 k d) = W (atW t k d) := by
  refine congrArg W (funext fun a => Fin.ext ?_)
  match a with
  | ⟨0, _⟩ => show 1024 * (t % 128) + 1 * k.val = 1024 * (t % 128) + k.val; omega
  | ⟨1, _⟩ => show 0 + 1 * d.val = d.val; omega

/-- What a step makes of a half of the result: the old value and the sum of 1024 products. -/
theorem stepSum_apply (f : FVec Ideal S64x1024 .f32) (b : FVec Ideal S1024x768 .f32) (o : FVec Ideal S64x768 .f32)
    (i : Fin 64) (d : Fin 768) :
    stepSum f b o (ix2 i d) = o (ix2 i d) + ∑ k : Fin 1024, f (ix2 i k) * b (ix2 k d) := by
  refine congrArg (o (ix2 i d) + ·) ?_
  refine (Ideal.matmul_plain_apply (M := 64) (K := 1024) (N := 768) none (truncf .bf16 f bitsLt_bf16_f32)
    (truncf .bf16 b bitsLt_bf16_f32) (constant S64x768 .f32 0x00000000#32) i d).trans ?_
  rw [constant_apply, Ideal.ofBits_zero_f32, zero_add]
  rfl

/-- A step at an element of the result: in the step's half the product is added, elsewhere nothing changes. -/
theorem accStep_apply (X : FVec Ideal S64x65536 .f32) (W : FVec Ideal S131072x768 .f32) (s : ℕ)
    (A : FVec Ideal S64x1536 .f32) (i : Fin 64) (l : Fin 2) (d : Fin 768) (y : S64x1536.Idx)
    (h0 : (y 0).val = i.val) (h1 : (y 1).val = 768 * l.val + d.val) :
    accStep X W s A y = A y + if s / 64 % 2 = l.val then part X W s i d else 0 := by
  have hi := i.isLt
  have hd := d.isLt
  unfold accStep VecWindow.put
  by_cases e : s / 64 % 2 = l.val
  · rw [if_pos e, dif_pos (show ∀ a, (![0, 768 * (s / 64 % 2)] : Fin 2 → ℕ) a ≤ (y a).val
        ∧ (y a).val < (![0, 768 * (s / 64 % 2)] : Fin 2 → ℕ) a + S64x768.size a from fun a => by
      match a with
      | ⟨0, _⟩ => show 0 ≤ (y 0).val ∧ (y 0).val < 0 + 64; omega
      | ⟨1, _⟩ => show 768 * (s / 64 % 2) ≤ (y 1).val ∧ (y 1).val < 768 * (s / 64 % 2) + 768; omega)]
    have eu : ∀ h, Rect.unitLocal (s := S64x1536) (off := ![0, 768 * (s / 64 % 2)]) (size := S64x768.size) y h = ix2 i d := by
      intro h
      refine funext fun a => Fin.ext ?_
      match a with
      | ⟨0, _⟩ => show (y 0).val - 0 = i.val; omega
      | ⟨1, _⟩ => show (y 1).val - 768 * (s / 64 % 2) = d.val; omega
    have ew : VecWindow.window A ![0, 768 * (s / 64 % 2)] S64x768.size (half_inb s) (ix2 i d) = A y := by
      refine congrArg A (funext fun a => Fin.ext ?_)
      match a with
      | ⟨0, _⟩ => show 0 + 1 * i.val = (y 0).val; omega
      | ⟨1, _⟩ => show 768 * (s / 64 % 2) + 1 * d.val = (y 1).val; omega
    rw [eu, stepSum_apply, ew]
    refine congrArg (A y + ·) (Finset.sum_congr rfl fun k _ => ?_)
    rw [cols_apply, block_apply]
  · rw [if_neg e, add_zero, dif_neg]
    intro h
    have h' : 768 * (s / 64 % 2) ≤ (y 1).val ∧ (y 1).val < 768 * (s / 64 % 2) + 768 := h 1
    omega

end Cert.Hand
-- ==== Proof.Total.lean ====
/-
  What the result holds after the last step, element by element, over the extended reals.

  An element of half `l` collects the products of the 64 steps of its half, on top of the bias. The 64 sums of 1024
  products are one sum of 65536.
-/
module

public import proofs.«01_k».proof.Proof.Product
public import Idealize.ShloMosaic.Lib.Pipeline.Value

@[expose] public section

noncomputable section

namespace Cert.Hand

open Cert.KernelIdeal Cert.KernelIdeal.Gen
open Idealize.ShloMosaic Idealize.ShloMosaic.ValueIdx
open scoped BigOperators

/-- The prologue's value: every row is the bias. -/
theorem biasRows_apply (b : FVec Ideal S1x1536 .f32) (y : S64x1536.Idx) :
    biasRows b y = b (ix2 0 ⟨(y 1).val, (y 1).isLt⟩) := by
  unfold biasRows
  rw [shapeCast_self, shapeCast_self]
  refine broadcastTo_apply b _ y _ fun a => ?_
  match a with
  | ⟨0, _⟩ => rfl
  | ⟨1, _⟩ => rfl

/-- After `s` steps an element holds the bias and the products of the steps, among the first `s`, of its half. -/
theorem acc_apply (X : FVec Ideal S64x65536 .f32) (W : FVec Ideal S131072x768 .f32) (b : FVec Ideal S1x1536 .f32)
    (i : Fin 64) (l : Fin 2) (d : Fin 768) (y : S64x1536.Idx)
    (h0 : (y 0).val = i.val) (h1 : (y 1).val = 768 * l.val + d.val) (s : ℕ) :
    acc X W b s y = b (ix2 0 ⟨(y 1).val, (y 1).isLt⟩)
      + ∑ t ∈ Finset.range s, if t / 64 % 2 = l.val then part X W t i d else 0 := by
  induction s with
  | zero => rw [Finset.range_zero, Finset.sum_empty, add_zero]; exact biasRows_apply b y
  | succ s ih =>
    rw [Finset.sum_range_succ, ← add_assoc, ← ih]
    exact accStep_apply X W s (acc X W b s) i l d y h0 h1

/-- Of 128 steps, the 64 of half `l` are the steps `64 * l + j`. -/
theorem half_sum (l : Fin 2) (p : ℕ → EReal) :
    (∑ t ∈ Finset.range 128, if t / 64 % 2 = l.val then p t else 0) = ∑ j : Fin 64, p (64 * l.val + j.val) := by
  rw [← Finset.sum_range (fun j => p (64 * l.val + j)), show (128 : ℕ) = 64 + 64 from rfl, Finset.sum_range_add]
  have lo : ∀ j ∈ Finset.range 64, j / 64 % 2 = 0 := fun j hj => by
    have := Finset.mem_range.1 hj; omega
  have hi : ∀ j ∈ Finset.range 64, (64 + j) / 64 % 2 = 1 := fun j hj => by
    have := Finset.mem_range.1 hj; omega
  match l with
  | 0 =>
    refine (congrArg₂ (· + ·) (Finset.sum_congr rfl fun j hj => if_pos (lo j hj))
      (Finset.sum_eq_zero fun j hj => if_neg fun h => ?_)).trans ((add_zero _).trans ?_)
    · exact absurd ((hi j hj).symm.trans h) Nat.one_ne_zero
    · exact Finset.sum_congr rfl fun j _ => congrArg p (Nat.zero_add j).symm
  | 1 =>
    refine (congrArg₂ (· + ·) (Finset.sum_eq_zero fun j hj => if_neg fun h => ?_)
      (Finset.sum_congr rfl fun j hj => if_pos (hi j hj))).trans (zero_add _)
    exact absurd ((lo j hj).symm.trans h) Nat.zero_ne_one

/-- A sum of 65536 terms, taken in 64 blocks of 1024. -/
theorem sum_blocks (g : Fin 65536 → EReal) :
    ∑ k : Fin 65536, g k
      = ∑ j : Fin 64, ∑ k : Fin 1024, g ⟨1024 * j.val + k.val, by have := j.isLt; have := k.isLt; omega⟩ := by
  rw [← Fintype.sum_prod_type' fun (j : Fin 64) (k : Fin 1024) =>
    g ⟨1024 * j.val + k.val, by have := j.isLt; have := k.isLt; omega⟩]
  refine (Fintype.sum_equiv (finProdFinEquiv (m := 64) (n := 1024)) _ _ fun p => ?_).symm
  refine congrArg g (Fin.ext ?_)
  show 1024 * p.1.val + p.2.val = p.2.val + 1024 * p.1.val
  exact Nat.add_comm _ _

end Cert.Hand
-- ==== Proof.Equation.lean ====
/-
  The kernel computes what the reference computes.

  The reshapes around the kernel only rename the elements, so both programs leave, at row `i`, layer `l` and column `d`,
  the sum of 65536 products and the bias.
-/
module

public import proofs.«01_k».proof.Proof.Total
public import proofs.«01_k».proof.Proof.Launch
public import proofs.«01_k».proof.Proof.Gen.ReferenceIdeal.Read

@[expose] public section

noncomputable section

namespace Cert.Hand

open Cert.KernelIdeal Cert.KernelIdeal.Gen
open Idealize.ShloMosaic Idealize.ShloMosaic.ValueIdx
open scoped BigOperators

/-- Row `65536 * l + k` of the flattened weight is row `k` of layer `l`. -/
theorem flat_weight (w : FVec Ideal S2x65536x768 .f32) (l : Fin 2) (k : Fin 65536) (d : Fin 768) (y : S131072x768.Idx)
    (h0 : (y 0).val = 65536 * l.val + k.val) (h1 : (y 1).val = d.val) :
    shapeCast S131072x768 w shapeCasts_S2x65536x768_S131072x768 y = w (ix3 l k d) := by
  refine shapeCast_apply w _ y _ ?_
  rw [Shape.rowMajor_val_two, Shape.rowMajor_val_three]
  show (l.val * 65536 + k.val) * 768 + d.val = (y 0).val * 768 + (y 1).val
  omega

/-- Column `768 * l + d` of the flattened bias is column `d` of layer `l`. -/
theorem flat_bias (b : FVec Ideal S2x768 .f32) (l : Fin 2) (d : Fin 768) (y : S1x1536.Idx)
    (h1 : (y 1).val = 768 * l.val + d.val) :
    shapeCast S1x1536 b shapeCasts_S2x768_S1x1536 y = b (ix2 l d) := by
  refine shapeCast_apply b _ y _ ?_
  rw [Shape.rowMajor_val_two, Shape.rowMajor_val_two]
  have h0 : (y 0).val < 1 := (y 0).isLt
  show l.val * 768 + d.val = (y 0).val * 1536 + (y 1).val
  omega

/-- Layer `l` of the reshaped result is half `l` of the kernel's result. -/
theorem split_result (A : FVec Ideal S64x1536 .f32) (i : Fin 64) (l : Fin 2) (d : Fin 768) :
    shapeCast S64x2x768 A shapeCasts_S64x1536_S64x2x768 (ix3 i l d)
      = A (ix2 i ⟨768 * l.val + d.val, by have := l.isLt; have := d.isLt; omega⟩) := by
  refine shapeCast_apply A _ _ _ ?_
  rw [Shape.rowMajor_val_two, Shape.rowMajor_val_three]
  show i.val * 1536 + (768 * l.val + d.val) = (i.val * 2 + l.val) * 768 + d.val
  omega

/-- An element that the kernel's program leaves: the bias and a sum of 65536 products. -/
theorem computed_apply (X : FVec Ideal S64x65536 .f32) (w : FVec Ideal S2x65536x768 .f32) (b : FVec Ideal S2x768 .f32)
    (i : Fin 64) (l : Fin 2) (d : Fin 768) :
    computed X w b (ix3 i l d) = b (ix2 l d) + ∑ k : Fin 65536, X (ix2 i k) * w (ix3 l k d) := by
  unfold computed
  rw [split_result, acc_apply _ _ _ i l d _ rfl rfl, flat_bias b l d _ rfl, half_sum, sum_blocks]
  refine congrArg (b (ix2 l d) + ·) (Finset.sum_congr rfl fun j _ => Finset.sum_congr rfl fun k _ => ?_)
  have hl := l.isLt
  have hj := j.isLt
  have hk := k.isLt
  refine congrArg₂ (· * ·) (congrArg X ?_) (flat_weight w l _ d _ ?_ rfl)
  · refine congrArg (ix2 i) (Fin.ext ?_)
    show 1024 * ((64 * l.val + j.val) % 64) + k.val = 1024 * j.val + k.val
    omega
  · show 1024 * ((64 * l.val + j.val) % 128) + k.val = 65536 * l.val + (1024 * j.val + k.val)
    omega

/-- An element that the reference leaves: a sum of 65536 products and the bias. -/
theorem reference_apply (X : FVec Ideal S64x65536 .f32) (w : FVec Ideal S2x65536x768 .f32) (b : FVec Ideal S2x768 .f32)
    (i : Fin 64) (l : Fin 2) (d : Fin 768) :
    Cert.ReferenceIdeal.Read.val_main_v3 (F := Ideal) X w b (ix3 i l d)
      = (∑ k : Fin 65536, X (ix2 i k) * w (ix3 l k d)) + b (ix2 l d) := by
  rw [Cert.ReferenceIdeal.Read.val_main_v3_apply, Cert.ReferenceIdeal.Read.val_main_v0_apply,
    Cert.ReferenceIdeal.Read.val_main_v2_apply, Cert.ReferenceIdeal.Read.val_main_v1_apply]
  refine congrArg₂ (· + ·) (Finset.sum_congr rfl fun k _ => congrArg₂ (· * ·) (congrArg X ?_) (congrArg w ?_)) (congrArg b ?_)
  · exact funext fun a => match a with
      | ⟨0, _⟩ => rfl
      | ⟨1, _⟩ => rfl
  · exact funext fun a => match a with
      | ⟨0, _⟩ => rfl
      | ⟨1, _⟩ => rfl
      | ⟨2, _⟩ => rfl
  · exact funext fun a => match a with
      | ⟨0, _⟩ => rfl
      | ⟨1, _⟩ => rfl

/-- The two programs leave the same array, on every input. -/
theorem computed_eq_reference (X : FVec Ideal S64x65536 .f32) (w : FVec Ideal S2x65536x768 .f32) (b : FVec Ideal S2x768 .f32) :
    computed X w b = Cert.ReferenceIdeal.Read.val_main_v3 (F := Ideal) X w b := by
  funext y
  rw [eq_ix3 y]
  exact ((computed_apply X w b _ _ _).trans (add_comm _ _)).trans (reference_apply X w b _ _ _).symm

end Cert.Hand
-- ==== Proof.lean ====
/-
  The proof of `Cert.Claim`.

  The kernel's run is proved once, for any kind of float (`Proof/Launch.lean`). Read on bits it is the printed program's
  run; read over the extended reals it gives the ideal program's run and the value it leaves. `Proof/Equation.lean`
  says that this value is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Same
public import proofs.«01_k».proof.Proof.Launch
public import proofs.«01_k».proof.Proof.Equation
public import Idealize.ShloMosaic.Lib.Quiescent

@[expose] public section

noncomputable section

namespace Cert.Proof

open Idealize.ShloMosaic Idealize.SL.Sem

/-- The ideal program runs to the end: its arguments are unchanged and its semaphores are at zero. -/
theorem ideal_runs : Cert.quiescent_KernelIdeal (hKernelIdeal := Cert.KernelIdeal.Gen.facts) := fun m g _ =>
  (θ_run (Cert.KernelIdeal.defs (F := Ideal)) _ _).mono (fun _ h => ⟨fun c => (h.1 c).2, h.2⟩)
    (Cert.Hand.program_spec (F := Ideal) m g)

/-- The reference runs to the end; it has no semaphores. -/
theorem reference_runs : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩)
    (Cert.ReferenceIdeal.Value.run (F := Ideal) m g)

/-- The array that the ideal program leaves on a device, given the memory it starts from. -/
def left (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v3) :=
  Cert.Hand.computed (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))

/-- From the same arguments the ideal program and the reference leave the same array. -/
theorem results_agree : Cert.algebraic_KernelIdeal_ReferenceIdeal (hKernelIdeal := Cert.KernelIdeal.Gen.facts)
    (hReferenceIdeal := Cert.ReferenceIdeal.Gen.facts) := by
  intro m g m' g' _ hargs
  refine ⟨left m,
    (θ_run (Cert.KernelIdeal.defs (F := Ideal)) _ _).mono (fun _ h => h.1) (Cert.Hand.program_spec (F := Ideal) m g),
    (θ_run (Cert.ReferenceIdeal.defs (F := Ideal)) _ _).mono ?_ (Cert.ReferenceIdeal.Value.run (F := Ideal) m' g')⟩
  intro r h c
  obtain ⟨e0, e1, e2⟩ := hargs c
  refine ⟨((h c).1.trans (Cert.ReferenceIdeal.Read.val_main_v3_eq _ _ _)).trans ?_, (h c).2⟩
  rw [e0, e1, e2]
  exact (Cert.Hand.computed_eq_reference _ _ _).symm

/-- Every claim of the certificate. -/
theorem claim : Cert.Claim :=
  ⟨Cert.Kernel.Gen.facts, Cert.KernelIdeal.Gen.facts, Cert.ReferenceIdeal.Gen.facts,
    Cert.Hand.kernel_runs, ideal_runs, reference_runs, trivial, results_agree⟩

end Cert.Proof

end
